-- ==== Defs.lean ====
def Pre_Kernel (m : (ℓ : Loc Cert.Kernel.nD Cert.Kernel.τ Cert.Kernel.sig) → Buf (Elt Bits) ℓ) : Prop :=
  True

def Pre_Kernel_nearest_is_unique [hPre_nearest_is_unique : Cert.Pre_nearest_is_unique.Facts] (m : (ℓ : Loc Cert.Kernel.nD Cert.Kernel.τ Cert.Kernel.sig) → Buf (Elt Bits) ℓ) : Prop :=
  ∀ c : Dev Cert.Kernel.nD,
    (Cert.Pre_nearest_is_unique.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_nearest_is_unique : Cert.Pre_nearest_is_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_is_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_is_unique [hPre_nearest_is_unique : Cert.Pre_nearest_is_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_is_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_nearest_is_unique [hKernel : Cert.Kernel.Facts] [hPre_nearest_is_unique : Cert.Pre_nearest_is_unique.Facts] : Prop :=
  ∀ (m : (ℓ : Loc Cert.Kernel.nD Cert.Kernel.τ Cert.Kernel.sig) → Buf (Elt Bits) ℓ) (g : Dev Cert.Kernel.nD → PrngReg), Pre_Kernel_nearest_is_unique m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nearest_is_unique [hReferenceIdeal : Cert.ReferenceIdeal.Facts] [hPre_nearest_is_unique : Cert.Pre_nearest_is_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_is_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nearest_is_unique : Cert.Pre_nearest_is_unique.Facts),
    quiescent_Kernel (hKernel := hKernel)
    ∧ quiescent_Kernel_pre_nearest_is_unique (hKernel := hKernel) (hPre_nearest_is_unique := hPre_nearest_is_unique)
    ∧ quiescent_KernelIdeal (hKernelIdeal := hKernelIdeal) (hPre_nearest_is_unique := hPre_nearest_is_unique)
    ∧ quiescent_ReferenceIdeal (hReferenceIdeal := hReferenceIdeal)
    ∧ quiescent_ReferenceIdeal_pre_nearest_is_unique (hReferenceIdeal := hReferenceIdeal) (hPre_nearest_is_unique := hPre_nearest_is_unique)
    ∧ preserves_Kernel_KernelIdeal
    ∧ algebraic_KernelIdeal_ReferenceIdeal (hKernelIdeal := hKernelIdeal) (hReferenceIdeal := hReferenceIdeal) (hPre_nearest_is_unique := hPre_nearest_is_unique)
-- ==== Pre_nearest_is_unique.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S16x1x32x32 : Shape := ⟨4, ![16, 1, 32, 32]⟩

class Facts : Prop where
  transposes_S16x64x32x32_S16x32x32x64_0_2_3_1 : S16x64x32x32.Transposes [0, 2, 3, 1] S16x32x32x64
  shapeCasts_S16x32x32x64_S16384x64 : S16x32x32x64.ShapeCasts S16384x64
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S1024x64_S1024_d1 : S1024x64.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  transposes_S1024x64_S64x1024_1_0 : S1024x64.Transposes [1, 0] S64x1024
  bcast_S_S16384x1024 : S_.BroadcastsInDim S16384x1024 (![] : Fin 0 → Fin S16384x1024.rank)
  reducesTo_S16384x1024_S16384_d1 : S16384x1024.ReducesTo [1] S16384
  natLt_1_32 : 1 < 32
  bcast_S_S16384 : S_.BroadcastsInDim S16384 (![] : Fin 0 → Fin S16384.rank)
  bcast_S_S16x64x32x32 : S_.BroadcastsInDim S16x64x32x32 (![] : Fin 0 → Fin S16x64x32x32.rank)
  shapeCasts_S16384_S16x1x32x32 : S16384.ShapeCasts S16x1x32x32
  bcast_S16x1x32x32_S16x64x32x32_0_1_2_3 : S16x1x32x32.BroadcastsInDim S16x64x32x32 (![0, 1, 2, 3] : Fin 4 → Fin S16x64x32x32.rank)
  dot_S16384x64_S64x1024_S16384x1024_1_0_0_1_n_n_wf : DotDims.WF S16384x64 S64x1024 S16384x1024 [1] [0] [0] [1] [] []

variable [Facts]

def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_part1 {F : FTy → Type} [FloatOps F] (main_arg0 : FVec F S16x64x32x32 .f32) (main_v19 : IVec S16384x1024 1) : IVec S16x64x32x32 1 :=
  let main_v20 : IVec S16384x1024 32 := (extui 32 · natLt_1_32) main_v19
  let main_c : IVec S_ 32 := constantI S_ 32 0#32
  let main_v21 : IVec S16384 32 := (fun x v => Host.reduce IntOp.addi x v reducesTo_S16384x1024_S16384_d1 h_S_) main_v20 main_c
  let main_c_3 : IVec S_ 32 := constantI S_ 32 1#32
  let main_v22 : IVec S16384 32 := broadcastInDim S16384 ![] bcast_S_S16384 main_c_3
  let main_v23 : IVec S16384 1 := cmpi .eq main_v21 main_v22
  let main_v24 : FVec F S16x64x32x32 .f32 := Host.absf main_arg0
  let main_cst_4 : FVec F S_ .f32 := constant S_ .f32 0x7F800000#32
  let main_v25 : FVec F S16x64x32x32 .f32 := broadcastInDim S16x64x32x32 ![] bcast_S_S16x64x32x32 main_cst_4
  let main_v26 : IVec S16x64x32x32 1 := cmpf .olt main_v24 main_v25
  let main_v27 : IVec S16x1x32x32 1 := shapeCast S16x1x32x32 main_v23 shapeCasts_S16384_S16x1x32x32
  let main_v28 : IVec S16x64x32x32 1 := broadcastInDim S16x64x32x32 ![0, 1, 2, 3] bcast_S16x1x32x32_S16x64x32x32_0_1_2_3 main_v27
  let main_v29 : IVec S16x64x32x32 1 := andi main_v26 main_v28
  main_v29

def fn {F : FTy → Type} [FloatOps F] (main_arg0 : FVec F S16x64x32x32 .f32) (main_arg1 : FVec F S1024x64 .f32) : IVec S16x64x32x32 1 :=
  let main_v0 : FVec F S16x32x32x64 .f32 := (transpose S16x32x32x64 [0, 2, 3, 1] · transposes_S16x64x32x32_S16x32x32x64_0_2_3_1) main_arg0
  let main_v1 : FVec F S16384x64 .f32 := shapeCast S16384x64 main_v0 shapeCasts_S16x32x32x64_S16384x64
  let main_v2 : FVec F S16384x64 .f32 := mulf main_v1 main_v1
  let main_cst : FVec F S_ .f32 := constant S_ .f32 0x00000000#32
  let main_v3 : FVec F S16384 .f32 := (fun x v => Host.reduceAdd x v reducesTo_S16384x64_S16384_d1 h_S_) main_v2 main_cst
  let main_v4 : FVec F S16384x1 .f32 := broadcastInDim S16384x1 ![0] bcast_S16384_S16384x1_0 main_v3
  let main_v5 : FVec F S1024x64 .f32 := mulf main_arg1 main_arg1
  let main_cst_0 : FVec F S_ .f32 := constant S_ .f32 0x00000000#32
  let main_v6 : FVec F S1024 .f32 := (fun x v => Host.reduceAdd x v reducesTo_S1024x64_S1024_d1 h_S_) main_v5 main_cst_0
  let main_v7 : FVec F S1x1024 .f32 := broadcastInDim S1x1024 ![1] bcast_S1024_S1x1024_1 main_v6
  let main_v8 : FVec F S16384x1024 .f32 := broadcastInDim S16384x1024 ![0, 1] bcast_S16384x1_S16384x1024_0_1 main_v4
  let main_v9 : FVec F S16384x1024 .f32 := broadcastInDim S16384x1024 ![0, 1] bcast_S1x1024_S16384x1024_0_1 main_v7
  let main_v10 : FVec F S16384x1024 .f32 := addf main_v8 main_v9
  let main_v11 : FVec F S64x1024 .f32 := (transpose S64x1024 [1, 0] · transposes_S1024x64_S64x1024_1_0) main_arg1
  let main_v12 : FVec F S16384x1024 .f32 := (fun l r => Host.dotGeneral dot_S16384x64_S64x1024_S16384x1024_1_0_0_1_n_n none l r) main_v1 main_v11
  let main_cst_1 : FVec F S_ .f32 := constant S_ .f32 0x40000000#32
  let main_v13 : FVec F S16384x1024 .f32 := broadcastInDim S16384x1024 ![] bcast_S_S16384x1024 main_cst_1
  let main_v14 : FVec F S16384x1024 .f32 := mulf main_v13 main_v12
  let main_v15 : FVec F S16384x1024 .f32 := subf main_v10 main_v14
  let main_cst_2 : FVec F S_ .f32 := constant S_ .f32 0x7F800000#32
  let main_v16 : FVec F S16384 .f32 := (fun x v => Host.reduce FloatOps.minimumf x v reducesTo_S16384x1024_S16384_d1 h_S_) main_v15 main_cst_2
  let main_v17 : FVec F S16384x1 .f32 := broadcastInDim S16384x1 ![0] bcast_S16384_S16384x1_0 main_v16
  let main_v18 : FVec F S16384x1024 .f32 := broadcastInDim S16384x1024 ![0, 1] bcast_S16384x1_S16384x1024_0_1 main_v17
  let main_v19 : IVec S16384x1024 1 := cmpf .oeq main_v15 main_v18
  fn_part1 (F := F) main_arg0 main_v19
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S16x1x1024 : Shape := ⟨3, ![16, 1, 1024]⟩
abbrev S8x1x1 : Shape := ⟨3, ![8, 1, 1]⟩
abbrev S16x1x32x32 : Shape := ⟨4, ![16, 1, 32, 32]⟩
abbrev S_ : Shape := ⟨0, ![]⟩
abbrev S2x64x1024 : Shape := ⟨3, ![2, 64, 1024]⟩
abbrev S2x1x1024 : Shape := ⟨3, ![2, 1, 1024]⟩
abbrev S1x1x1 : Shape := ⟨3, ![1, 1, 1]⟩
abbrev S1024 : Shape := ⟨1, ![1024]⟩
abbrev S1024x1 : Shape := ⟨2, ![1024, 1]⟩
abbrev S1x1 : Shape := ⟨2, ![1, 1]⟩
abbrev S1x64x1024 : Shape := ⟨3, ![1, 64, 1024]⟩
abbrev S64x1024 : Shape := ⟨2, ![64, 1024]⟩
abbrev S1x1024 : Shape := ⟨2, ![1, 1024]⟩
abbrev S1024x1024 : Shape := ⟨2, ![1024, 1024]⟩
abbrev S1x1x1024 : Shape := ⟨3, ![1, 1, 1024]⟩
abbrev S1 : Shape := ⟨1, ![1]⟩

abbrev nBuf : Space → Nat
  | .hbm => 12
  | .vmem => 9
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S16x64x1024, .f32⟩
  | .hbm, ⟨4, _⟩ => ⟨S16x1x1024, .i32⟩
  | .hbm, ⟨5, _⟩ => ⟨S8x1x1, .f32⟩
  | .hbm, ⟨6, _⟩ => ⟨S16x64x32x32, .f32⟩
  | .hbm, ⟨7, _⟩ => ⟨S16x1x32x32, .i32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2x64x1024, .f32⟩
  | .local _ .vmem, ⟨1, _⟩ => ⟨S2x64x1024, .f32⟩
  | .local _ .vmem, ⟨2, _⟩ => ⟨S1024x64, .f32⟩
  | .local _ .vmem, ⟨3, _⟩ => ⟨S2x64x1024, .f32⟩
  | .local _ .vmem, ⟨4, _⟩ => ⟨S2x64x1024, .f32⟩
  | .local _ .vmem, ⟨5, _⟩ => ⟨S2x1x1024, .i32⟩
  | .local _ .vmem, ⟨6, _⟩ => ⟨S2x1x1024, .i32⟩
  | .local _ .vmem, ⟨7, _⟩ => ⟨S1x1x1, .f32⟩
  | .local _ .vmem, ⟨8, _⟩ => ⟨S1x1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v1_2 : Ref sig .tc := ⟨.hbm, 5, rfl⟩
abbrev main_v0_0 : Ref sig .tc := ⟨.hbm, 6, rfl⟩
abbrev main_v0_2 : Ref sig .tc := ⟨.hbm, 7, rfl⟩
abbrev main_call0_cst : Ref sig .tc := ⟨.hbm, 8, rfl⟩
abbrev main_call0_v4 : Ref sig .tc := ⟨.hbm, 9, rfl⟩
abbrev main_call0_cst_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S16x32x32x1 : Shape := ⟨4, ![16, 32, 32, 1]⟩
abbrev S16x1x32x32 : Shape := ⟨4, ![16, 1, 32, 32]⟩

abbrev nBuf : Space → Nat
  | .hbm => 47
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16x32x32x1, .i32⟩
  | .hbm, ⟨27, _⟩ => ⟨S16x1x32x32, .i32⟩
  | .hbm, ⟨28, _⟩ => ⟨S16384x1, .i32⟩
  | .hbm, ⟨29, _⟩ => ⟨S1x1024, .i32⟩
  | .hbm, ⟨30, _⟩ => ⟨S16384x1024, .i32⟩
  | .hbm, ⟨31, _⟩ => ⟨S16384x1024, .i32⟩
  | .hbm, ⟨32, _⟩ => ⟨S16384x1024, .i1⟩
  | .hbm, ⟨33, _⟩ => ⟨S16384x1024, .f32⟩
  | .hbm, ⟨34, _⟩ => ⟨S16384x64, .f32⟩
  | .hbm, ⟨35, _⟩ => ⟨S16x32x32x64, .f32⟩
  | .hbm, ⟨36, _⟩ => ⟨S16x32x32x64, .f32⟩
  | .hbm, ⟨37, _⟩ => ⟨S16x32x32x64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x32x32x64, .f32⟩
  | .hbm, ⟨43, _⟩ => ⟨S16x32x32x64, .f32⟩
  | .hbm, ⟨44, _⟩ => ⟨S16x64x32x32, .f32⟩
  | .hbm, ⟨45, _⟩ => ⟨S_, .f32⟩
  | .hbm, ⟨46, _⟩ => ⟨S_, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.Least.lean ====
/-
  The index of the least entry of a list of extended reals, the first one at a tie: stated once as plain mathematics,
  then shown to be what a left fold of the two-operand (value, index) minimum leaves, in whatever order it meets the
  pairs.
-/
module

public import Idealize.ShloMosaic.PureOps.Ideal
public import Mathlib.Data.Prod.Lex
public import Mathlib.Data.EReal.Basic

@[expose] public section

noncomputable section

namespace Cert.VQ

/-- The position of the least of `n` extended reals, the first one at a tie, as a 32-bit word. -/
def firstLeast {n : ℕ} (f : Fin n → EReal) : BitVec 32 :=
  BitVec.ofNat 32
    (((Finset.univ.filter fun k => ∀ k', ¬ f k' < f k).image Fin.val).min.getD 0)

/-- A position that is least, and strictly less than every earlier one, is that position. -/
theorem firstLeast_eq {n : ℕ} (f : Fin n → EReal) (k : Fin n) (hk : ∀ k', f k ≤ f k')
    (hfirst : ∀ k', f k' = f k → (k : ℕ) ≤ k') : firstLeast f = BitVec.ofNat 32 k := by
  have hmin : ((Finset.univ.filter fun k => ∀ k', ¬ f k' < f k).image Fin.val).min
      = ((k : ℕ) : WithTop ℕ) := by
    apply le_antisymm
    · apply Finset.min_le
      exact Finset.mem_image.2 ⟨k, Finset.mem_filter.2 ⟨Finset.mem_univ _, fun k' => not_lt.2 (hk k')⟩, rfl⟩
    · apply Finset.le_min
      intro a ha
      obtain ⟨i, hi, rfl⟩ := Finset.mem_image.1 ha
      have hi' := (Finset.mem_filter.1 hi).2
      exact WithTop.coe_le_coe.2 (hfirst i (le_antisymm (not_lt.1 (hi' k)) (hk i)))
  unfold firstLeast
  rw [hmin]
  rfl

/-- Pairs ordered by value, then by the index read as a signed number. -/
def pairKey (p : EReal × BitVec 32) : EReal ×ₗ ℤ := toLex (p.1, p.2.toInt)

/-- A left fold that keeps the lesser of two pairs ends at one of the pairs, at most every one of them. -/
theorem foldl_lesser (op : EReal × BitVec 32 → EReal × BitVec 32 → EReal × BitVec 32)
    (hop : ∀ a b, op a b = if pairKey a < pairKey b then a else b) (l : List (EReal × BitVec 32)) :
    ∀ a, l.foldl op a ∈ a :: l ∧ ∀ p ∈ a :: l, pairKey (l.foldl op a) ≤ pairKey p := by
  induction l with
  | nil => intro a; simp
  | cons b l ih =>
    intro a
    rw [List.foldl_cons]
    obtain ⟨hm, hle⟩ := ih (op a b)
    have hab : op a b = a ∨ op a b = b := by rw [hop]; split <;> simp
    have hka : pairKey (op a b) ≤ pairKey a := by
      rw [hop]; split
      · exact le_rfl
      · next h => exact not_lt.1 h
    have hkb : pairKey (op a b) ≤ pairKey b := by
      rw [hop]; split
      · next h => exact h.le
      · exact le_rfl
    have h0 := hle _ (List.mem_cons_self ..)
    refine ⟨?_, fun p hp => ?_⟩
    · rcases List.mem_cons.1 hm with h | h
      · rw [h]; rcases hab with h' | h' <;> rw [h'] <;> simp
      · exact List.mem_cons_of_mem _ (List.mem_cons_of_mem _ h)
    · rcases List.mem_cons.1 hp with rfl | hp
      · exact h0.trans hka
      · rcases List.mem_cons.1 hp with rfl | hp
        · exact h0.trans hkb
        · exact hle p (List.mem_cons_of_mem _ hp)

/-- A position below 1024, read as a signed 32-bit number, is itself. -/
theorem toInt_position (k : Fin 1024) : (BitVec.ofNat 32 (k : ℕ)).toInt = (k : ℕ) := by
  have := k.isLt
  rw [BitVec.toInt_eq_toNat_of_lt] <;> rw [BitVec.toNat_ofNat, Nat.mod_eq_of_lt (by omega)]
  omega

/-- So the fold over 1024 (value, position) pairs, in any order and from (+∞, 0), leaves the position of the first
    least value. -/
theorem foldl_eq_firstLeast (op : EReal × BitVec 32 → EReal × BitVec 32 → EReal × BitVec 32)
    (hop : ∀ a b, op a b = if pairKey a < pairKey b then a else b) (f : Fin 1024 → EReal)
    (l : List (EReal × BitVec 32)) (hl : ∀ p, p ∈ l ↔ ∃ k : Fin 1024, p = (f k, BitVec.ofNat 32 (k : ℕ))) :
    (l.foldl op (⊤, 0#32)).2 = firstLeast f := by
  obtain ⟨hm, hle⟩ := foldl_lesser op hop l (⊤, 0#32)
  have hk (k : Fin 1024) : pairKey (l.foldl op (⊤, 0#32)) ≤ toLex (f k, ((k : ℕ) : ℤ)) := by
    have := hle (f k, BitVec.ofNat 32 (k : ℕ)) (List.mem_cons_of_mem _ ((hl _).2 ⟨k, rfl⟩))
    rwa [pairKey, pairKey, toInt_position] at this
  -- whatever pair the fold ends at, it is the pair of some position
  have hpos : ∃ k : Fin 1024, l.foldl op (⊤, 0#32) = (f k, BitVec.ofNat 32 (k : ℕ)) := by
    rcases List.mem_cons.1 hm with h | h
    · refine ⟨0, ?_⟩
      have h0 := hk 0
      rw [h, pairKey, Prod.Lex.toLex_le_toLex] at h0
      rcases h0 with h0 | h0
      · exact absurd h0 not_top_lt
      · have h1 : (⊤ : EReal) = f 0 := h0.1
        rw [h, ← h1]; rfl
    · exact (hl _).1 h
  obtain ⟨k, e⟩ := hpos
  have hk' (k' : Fin 1024) : f k < f k' ∨ f k = f k' ∧ (k : ℕ) ≤ k' := by
    have := hk k'
    rw [e, pairKey, toInt_position, Prod.Lex.toLex_le_toLex] at this
    simpa using this
  rw [e]
  refine (firstLeast_eq f k (fun k' => ?_) (fun k' h => ?_)).symm
  · rcases hk' k' with h | h
    · exact h.le
    · exact h.1.le
  · rcases hk' k' with h' | h'
    · exact absurd h (ne_of_gt h')
    · exact h'.2

end Cert.VQ

end
-- ==== Proof.Spec.lean ====
/-
  What both programs compute, as plain mathematics over the extended reals: the squared distance of a pixel to a
  codebook row in its expanded form, the index of the nearest row (the first at a tie), and the row looked up by that
  index. Pixels are numbered 0 … 1023 within an image, row by row of the 32 × 32 grid.
-/
module

public import proofs.«01_k».proof.Proof.Least
public import Idealize.ShloMosaic.Lib.Pointwise

@[expose] public section

noncomputable section

namespace Cert.VQ

open Idealize.ShloMosaic

/-- The shape of the images: 16 images of 64 channels over a 32 × 32 grid. -/
abbrev Images : Shape := ⟨4, ![16, 64, 32, 32]⟩

/-- The shape of the codebook: 1024 rows of 64 numbers. -/
abbrev Codebook : Shape := ⟨2, ![1024, 64]⟩

/-- Channel `d` of pixel `p` of image `b`. -/
def pixel (x : FVec Ideal Images .f32) (b : Fin 16) (p : Fin 1024) (d : Fin 64) : EReal :=
  x (ix4 b d ⟨(p : ℕ) / 32, by omega⟩ ⟨(p : ℕ) % 32, by omega⟩)

/-- Entry `d` of codebook row `k`. -/
def row (e : FVec Ideal Codebook .f32) (k : Fin 1024) (d : Fin 64) : EReal := e (ix2 k d)

/-- The squared distance of a vector to row `k`, expanded: its own square, plus the row's, less twice the product. -/
def dist (v : Fin 64 → EReal) (r : Fin 1024 → Fin 64 → EReal) (k : Fin 1024) : EReal :=
  (∑ d, v d * v d + ∑ d, r k d * r k d) - Ideal.ofBits .f32 0x40000000#32 * ∑ d, r k d * v d

/-- The index of the row nearest to a vector, the first one at a tie. -/
def near (v : Fin 64 → EReal) (r : Fin 1024 → Fin 64 → EReal) : BitVec 32 := firstLeast (dist v r)

/-- Entry `d` of the row with index `n`, as a sum over all rows that keeps the one. -/
def pick (r : Fin 1024 → Fin 64 → EReal) (n : BitVec 32) (d : Fin 64) : EReal :=
  ∑ k : Fin 1024, r k d * (if n = BitVec.ofNat 32 (k : ℕ) then 1 else 0)

/-- The squared difference of the nearest row and the pixel, at one channel. -/
def gap (x : FVec Ideal Images .f32) (e : FVec Ideal Codebook .f32) (b : Fin 16) (p : Fin 1024) (d : Fin 64) : EReal :=
  (pick (row e) (near (pixel x b p) (row e)) d - pixel x b p d)
    * (pick (row e) (near (pixel x b p) (row e)) d - pixel x b p d)

/-- The word of plus infinity reads as the top of the extended reals. -/
theorem inf_word : Ideal.ofBits .f32 0x7F800000#32 = ⊤ := by
  simp [Ideal.ofBits, Ideal.ieee]

/-- The word of 2⁻²². -/
theorem scale_word : Ideal.ofBits .f32 0x34800000#32 = (((1 : ℝ) / 4194304 : ℝ) : EReal) := by
  simp [Ideal.ofBits, Ideal.ieee, -EReal.coe_mul]
  norm_num

/-- The word of a quarter. -/
theorem quarter_word : Ideal.ofBits .f32 0x3E800000#32 = (((1 : ℝ) / 4 : ℝ) : EReal) := by
  simp [Ideal.ofBits, Ideal.ieee, -EReal.coe_mul]
  norm_num

/-- The word of 2²⁰, the number of entries of the input. -/
theorem count_word : Ideal.ofBits .f32 0x49800000#32 = ((1048576 : ℝ) : EReal) := by
  simp [Ideal.ofBits, Ideal.ieee, -EReal.coe_mul]
  norm_num

/-- A quarter of a sum divided by 2²⁰ is the sum times 2⁻²², whatever the sum, infinite ones included. -/
theorem quarter_of_mean (s : EReal) :
    Ideal.ofBits .f32 0x3E800000#32 * Ideal.div s (Ideal.ofBits .f32 0x49800000#32)
      = s * Ideal.ofBits .f32 0x34800000#32 := by
  rw [quarter_word, count_word, scale_word, Ideal.div_coe (by norm_num), mul_left_comm, ← EReal.coe_mul]
  norm_num

/-- The bit of a comparison, read as a number: one where it holds and zero elsewhere. -/
theorem bit_toNat (n k : BitVec 32) :
    (((IntOp.cmpi .eq n k).toNat : ℝ) : EReal) = if n = k then 1 else 0 := by
  by_cases h : n = k <;> simp [IntOp.cmpi, h]

/-- The bit is the same with the two sides exchanged. -/
theorem cmpi_comm (n k : BitVec 32) : IntOp.cmpi .eq k n = IntOp.cmpi .eq n k := by
  simp [IntOp.cmpi, Bool.beq_comm, BEq.comm]

/-- The same bit widened to a word and read as a signed number. -/
theorem bit_toInt (n k : BitVec 32) :
    ((((IntOp.cmpi .eq n k).setWidth 32).toInt : ℝ) : EReal) = if n = k then 1 else 0 := by
  by_cases h : n = k
  · simp [IntOp.cmpi, h]
  · have hb : (n == k) = false := by simpa using h
    simp [IntOp.cmpi, h, hb]

end Cert.VQ

end
-- ==== Proof.ArgMin.lean ====
/-
  The two forms of argmin over a table of extended reals, whatever the number of the lines kept: the host's along the
  rows, and the kernel's down the columns. Each finds the position of the line's first least entry.
-/
module

public import proofs.«01_k».proof.Proof.Least
public import Idealize.ShloMosaic.Lib.Pointwise
public import Idealize.ShloMosaic.PureOps.Ideal.Laws

@[expose] public section

noncomputable section

namespace Cert.VQ

open Idealize.ShloMosaic

variable {m : ℕ} {u : Shape}

/-- The (value, position) pairs the reduction meets at row `n` are those of the row's entries. -/
theorem mem_row_pairs (v : FVec Ideal ⟨2, ![m, 1024]⟩ .f32) (y : IVec ⟨2, ![m, 1024]⟩ 32)
    (hy : ∀ n k, y (ix2 n k) = BitVec.ofNat 32 (k : ℕ))
    (h : (⟨2, ![m, 1024]⟩ : Shape).ReducesTo [1] ⟨1, ![m]⟩) (n : Fin m) (p : EReal × BitVec 32) :
    p ∈ Host.argReduceFiber (α := EReal) v y h (ix1 n)
      ↔ ∃ k : Fin 1024, p = (v (ix2 n k), BitVec.ofNat 32 (k : ℕ)) := by
  unfold Host.argReduceFiber
  constructor
  · intro hp
    obtain ⟨i, hi, rfl⟩ := List.mem_map.1 hp
    have hj := of_decide_eq_true (List.mem_filter.1 hi).2
    obtain ⟨k, hk⟩ := (h.fiber_r2_a1 (ix1 n) _).1 hj
    refine ⟨k, ?_⟩
    rw [← hk]
    exact Prod.ext rfl (hy _ k)
  · rintro ⟨k, rfl⟩
    refine List.mem_map.2 ⟨(⟨2, ![m, 1024]⟩ : Shape).rowMajor (ix2 n k),
      List.mem_filter.2 ⟨List.mem_finRange _, ?_⟩, ?_⟩
    · rw [Equiv.symm_apply_apply]
      exact decide_eq_true ((h.fiber_r2_a1 (ix1 n) _).2 ⟨k, rfl⟩)
    · rw [Equiv.symm_apply_apply, hy]

/-- So an argmin whose comparison keeps the lesser pair, started from (+∞, 0), finds the first least entry's position. -/
theorem argMin_row (op : EReal × BitVec 32 → EReal × BitVec 32 → EReal × BitVec 32)
    (hop : ∀ a b, op a b = if pairKey a < pairKey b then a else b)
    (v : FVec Ideal ⟨2, ![m, 1024]⟩ .f32) (y : IVec ⟨2, ![m, 1024]⟩ 32)
    (hy : ∀ n k, y (ix2 n k) = BitVec.ofNat 32 (k : ℕ))
    (ix : FVec Ideal u .f32) (iy : IVec u 32) (hix : ∀ i, ix i = (⊤ : EReal)) (hiy : ∀ i, iy i = 0#32)
    (h : (⟨2, ![m, 1024]⟩ : Shape).ReducesTo [1] ⟨1, ![m]⟩) (hu : 0 < u.numel) (n : Fin m) :
    (Host.argReduce (F := Ideal) (φ := .f32) op v y ix iy h hu (ix1 n)).2 = firstLeast fun k => v (ix2 n k) := by
  rw [Ideal.argReduce_eq_reduce2, Host.reduce2_eq_foldl_fiber, hix, hiy]
  exact foldl_eq_firstLeast op hop _ _ (mem_row_pairs v y hy h n)

/-- The kernel's argmin down a column: the position of the column's first least entry. -/
theorem argMin_column {n : ℕ} (h : (⟨2, ![n, m]⟩ : Shape).Reduces [0] ⟨1, ![m]⟩)
    (v : FVec Ideal ⟨2, ![n, m]⟩ .f32) (p : Fin m) :
    reduceIndex (F := Ideal) .argMin 0 ⟨1, ![m]⟩ v h (ix1 p) = firstLeast fun k => v (ix2 k p) := by
  have hf (i : (⟨2, ![n, m]⟩ : Shape).Idx) : h.drop i = ix1 p ↔ ∃ k : Fin n, ix2 k p = i := h.fiber_r2_a0 (ix1 p) i
  unfold reduceIndex firstLeast
  rw [Ideal.reduceIndex_def]
  unfold Ideal.reduceIndex
  refine congrArg (fun S : Finset ℕ => BitVec.ofNat 32 (S.min.getD 0)) (Finset.ext fun a => ?_)
  simp only [Finset.mem_image, Finset.mem_filter, Finset.mem_univ, true_and, hf]
  constructor
  · rintro ⟨i, ⟨⟨k, rfl⟩, hi⟩, rfl⟩
    exact ⟨k, fun k' => by simpa using hi _ ⟨k', rfl⟩, rfl⟩
  · rintro ⟨k, hk, rfl⟩
    refine ⟨ix2 k p, ⟨⟨k, rfl⟩, ?_⟩, rfl⟩
    rintro _ ⟨k', rfl⟩
    simpa using hk k'

end Cert.VQ

end
-- ==== Proof.Block.lean ====
/-
  What the kernel computes for one image, at exact arithmetic: from the block of the image (64 channels by 1024 pixels)
  and the codebook, the index of the nearest row at each pixel, the row looked up, and the sum of the squared
  differences. The kernel does this twice per grid point, once per image, in the same words.
-/
module

public import proofs.«01_k».proof.Proof.Gen.KernelIdeal.Skeleton
public import proofs.«01_k».proof.Proof.Spec
public import proofs.«01_k».proof.Proof.ArgMin
public import Idealize.ShloMosaic.Lib.Pointwise

@[expose] public section

set_option maxRecDepth 16384

noncomputable section

namespace Cert.VQ.Block

open Cert.KernelIdeal Cert.KernelIdeal.Gen
open Idealize.ShloMosaic Idealize.ShloMosaic.TcCoe Idealize.SL.Sem

variable (e : FVec Ideal S1024x64 .f32) (u : FVec Ideal S1x64x1024 .f32)

/-- Pixel `p` of the block. -/
def chan (p : Fin 1024) (d : Fin 64) : EReal := u (ix3 (0 : Fin 1) d p)

/-- The second image's indices are the first one's function of its block, the rows' squares being computed once. -/
theorem pay10_eq : k0_pay10 (F := Ideal) e (k0_pay1 (F := Ideal) e) u = k0_pay4 (F := Ideal) e u := by
  unfold k0_pay10 k0_pay4 k0_pay9 k0_pay3; rfl

/-- So are its looked-up rows, -/
theorem pay11_eq : k0_pay11 (F := Ideal) e (k0_pay1 (F := Ideal) e) u = k0_pay5 (F := Ideal) e u := by
  unfold k0_pay11 k0_pay5; rw [pay10_eq]

/-- what is stored of them for the first result, -/
theorem pay12_eq : k0_pay12 (F := Ideal) e (k0_pay1 (F := Ideal) e) u = k0_pay6 (F := Ideal) e u := by
  unfold k0_pay12 k0_pay6; rw [pay11_eq]

/-- and what is stored of its indices for the third. -/
theorem pay13_eq : k0_pay13 (F := Ideal) e (k0_pay1 (F := Ideal) e) u = k0_pay7 (F := Ideal) e u := by
  unfold k0_pay13 k0_pay7; rw [pay10_eq]

/-- The kernel's table of distances, rows of the codebook down and pixels across. -/
def table : FVec Ideal S1024x1024 .f32 :=
  subf
    (addf
      (broadcastTo S1024x1024
        (shapeCast S1x1024
          (multiReduction .add [0] S1024 (mulf (k0_pay3 (F := Ideal) u) (k0_pay3 (F := Ideal) u)) 0x00000000#32 reduces_S64x1024_S1024 (.inl rfl) rfl)
          shapeCasts_S1024_S1x1024)
        broadcasts_S1x1024_S1024x1024)
      (broadcastTo S1024x1024 (k0_pay1 (F := Ideal) e) broadcasts_S1024x1_S1024x1024))
    (mulf (broadcast S1024x1024 (Scalar.ofBits .f32 0x40000000#32))
      (matmul dot_S1024x64_S64x1024_S1024x1024_1_0_0_1_n_n none e (k0_pay3 (F := Ideal) u) (constant S1024x1024 .f32 0x00000000#32)))

/-- An entry of that table. -/
theorem table_at (k p : Fin 1024) : table e u (ix2 k p) = dist (chan u p) (row e) k := by
  pointwise [table, k0_pay3, k0_pay1, dist, row, chan]

/-- The nearest row's index at a pixel. -/
theorem pay4_at (p : Fin 1024) : k0_pay4 (F := Ideal) e u (ix1 p) = near (chan u p) (row e) := by
  have h : k0_pay4 (F := Ideal) e u = reduceIndex .argMin 0 S1024 (table e u) reduces_S1024x1024_S1024 := rfl
  rw [h]
  refine (argMin_column (m := 1024) (n := 1024) _ (table e u) p).trans ?_
  exact congrArg firstLeast (funext fun k => table_at e u k p)

/-- The kernel's look-up of a vector of indices, a product with their one-hot columns. -/
def lookUp (n : IVec S1024 32) : FVec Ideal S64x1024 .f32 :=
  matmul dot_S1024x64_S1024x1024_S64x1024_0_0_1_1_n_n none e
    (sitofp .f32 (extui 32
      (cmpi .eq (iota .tc S1024x1024 32 [0] iota_S1024x1024_d0_w32)
        (broadcastTo S1024x1024 (shapeCast S1x1024 n shapeCasts_S1024_S1x1024) broadcasts_S1x1024_S1024x1024))
      natLt_1_32))
    (constant S64x1024 .f32 0x00000000#32)

/-- An entry of the look-up. -/
theorem lookUp_at (n : IVec S1024 32) (d : Fin 64) (p : Fin 1024) : lookUp e n (ix2 d p) = pick (row e) (n (ix1 p)) d := by
  pointwise [lookUp, pick, row]
  refine Finset.sum_congr rfl fun k _ => congrArg (e (ix2 k d) * ·) ?_
  exact (congrArg (fun b : BitVec 1 => (((b.setWidth 32).toInt : ℝ) : EReal)) (cmpi_comm _ _)).trans (bit_toInt _ _)

/-- The looked-up row at a pixel. -/
theorem pay5_at (d : Fin 64) (p : Fin 1024) : k0_pay5 (F := Ideal) e u (ix2 d p) = pick (row e) (near (chan u p) (row e)) d := by
  have h : k0_pay5 (F := Ideal) e u = lookUp e (k0_pay4 (F := Ideal) e u) := rfl
  rw [h, lookUp_at, pay4_at]

/-- What is stored for the first result. -/
theorem pay6_at (z : Fin 1) (d : Fin 64) (p : Fin 1024) :
    k0_pay6 (F := Ideal) e u (ix3 z d p) = pick (row e) (near (chan u p) (row e)) d := by
  rw [← pay5_at]
  pointwise [k0_pay6]

/-- What is stored for the third result. -/
theorem pay7_at (z z' : Fin 1) (p : Fin 1024) : k0_pay7 (F := Ideal) e u (ix3 z z' p) = near (chan u p) (row e) := by
  rw [← pay4_at]
  pointwise [k0_pay7]

/-- The squared difference at a pixel and a channel. -/
def miss (d : Fin 64) (p : Fin 1024) : EReal :=
  (pick (row e) (near (chan u p) (row e)) d - chan u p d) * (pick (row e) (near (chan u p) (row e)) d - chan u p d)

/-- The first image's sum of squared differences. -/
theorem pay8_at (z z' : Fin 1) : k0_pay8 (F := Ideal) e u (ix2 z z') = ∑ d, ∑ p, miss e u d p := by
  pointwise [k0_pay8, k0_pay3]
  refine Finset.sum_congr rfl fun d _ => Finset.sum_congr rfl fun p _ => ?_
  rw [pay5_at]
  rfl

/-- What is stored for the second result, from the two images' blocks. -/
theorem pay14_at (u' : FVec Ideal S1x64x1024 .f32) (z z' z'' : Fin 1) :
    k0_pay14 (F := Ideal) e (k0_pay1 (F := Ideal) e) (k0_pay2 (F := Ideal)) (k0_pay8 (F := Ideal) e u) u' (ix3 z z' z'')
      = (∑ d, ∑ p, miss e u d p) + ∑ d, ∑ p, miss e u' d p := by
  pointwise [k0_pay14, k0_pay9, k0_pay2]
  rw [pay8_at]
  refine congrArg _ (Finset.sum_congr rfl fun d _ => Finset.sum_congr rfl fun p _ => ?_)
  rw [pay11_eq, pay5_at]
  rfl

end Cert.VQ.Block

end
-- ==== Proof.Arrays.lean ====
/-
  The three arrays the kernel's grid leaves, at exact arithmetic, from the arguments as launched: at every pixel the
  looked-up row and its index, and per pair of images the sum of the squared differences. Grid point `s` handles images
  `2 s` and `2 s + 1`.
-/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.VQ.Arrays

open Cert.KernelIdeal Cert.KernelIdeal.Gen Cert.VQ.Block
open Idealize.ShloMosaic Idealize.ShloMosaic.TcCoe Idealize.SL.Sem
open Idealize.ShloMosaic.Pipeline (Dat)

variable (m : (ℓ : Loc nD τ sig) → Buf (Elt Ideal) ℓ) (c : Dev nD)

/-- The images as launched. -/
abbrev X : FVec Ideal S16x64x32x32 .f32 := m ((c : Thread nD τ).loc main_arg0)

/-- The codebook as launched. -/
abbrev E : FVec Ideal S1024x64 .f32 := m ((c : Thread nD τ).loc main_arg1)

/-- The looked-up rows, the pixels of an image in one line. -/
def quantArr (x : FVec Ideal S16x64x32x32 .f32) (e : FVec Ideal S1024x64 .f32) : FVec Ideal S16x64x1024 .f32 :=
  fun i => pick (row e) (near (pixel x (i 0) (i 2)) (row e)) (i 1)

/-- The nearest rows' indices. -/
def indexArr (x : FVec Ideal S16x64x32x32 .f32) (e : FVec Ideal S1024x64 .f32) : IVec S16x1x1024 32 :=
  fun i => near (pixel x (i 0) (i 2)) (row e)

/-- The sum of the squared differences over image `b`. -/
def missSum (x : FVec Ideal S16x64x32x32 .f32) (e : FVec Ideal S1024x64 .f32) (b : Fin 16) : EReal :=
  ∑ d : Fin 64, ∑ p : Fin 1024, gap x e b p d

/-- That sum over each pair of images. -/
def lossArr (x : FVec Ideal S16x64x32x32 .f32) (e : FVec Ideal S1024x64 .f32) : FVec Ideal S8x1x1 .f32 :=
  fun i => missSum x e ⟨2 * (i 0 : ℕ), by have : (i 0 : ℕ) < 8 := (i 0).isLt; omega⟩
    + missSum x e ⟨2 * (i 0 : ℕ) + 1, by have : (i 0 : ℕ) < 8 := (i 0).isLt; omega⟩

/-- Which block each window is at, at every grid point. -/
theorem idx : ∀ t : Fin cfg0.N, win0_0.index t = ![t.val, 0, 0] ∧ win0_1.index t = ![0, 0]
    ∧ win0_2.index t = ![t.val, 0, 0] ∧ win0_3.index t = ![t.val, 0, 0] ∧ win0_4.index t = ![t.val, 0, 0] :=
  (by decide +kernel : ∀ t : Fin grid0.N, _)

/-- The images as the grid finds them: each image's pixels in one line. -/
theorem V_images : V m c main_call0_v0 = shapeCast S16x64x1024 (X m c) shapeCasts_S16x64x32x32_S16x64x1024 := by
  entry_read
  rfl

/-- A point's block of the images, read at one of its two images. -/
theorem block_at (t : Fin cfg0.N) (z : Fin 2) (b : Fin 16) (hb : (b : ℕ) = 2 * t.val + z) (d : Fin 64) (p : Fin 1024) :
    iblk m c 0 t (ix3 z d p) = pixel (X m c) b p d := by
  unfold pixel
  have ht : t.val < 8 := lt_of_lt_of_eq t.isLt N_0
  blk_simp [iblk, idx t]
  rw [V_images]
  pointwise
  blk_ext [idx t]

/-- A pixel of the first image of a point's block. -/
theorem first_chan (t : Fin cfg0.N) (b : Fin 16) (hb : (b : ℕ) = 2 * t.val) (p : Fin 1024) :
    chan (View.ld (iblk m c 0 t) r0_1) p = pixel (X m c) b p := by
  funext d
  rw [← block_at m c t 0 b (by simpa using hb)]
  pointwise [chan]
  blk_ext

/-- A pixel of the second image of a point's block. -/
theorem second_chan (t : Fin cfg0.N) (b : Fin 16) (hb : (b : ℕ) = 2 * t.val + 1) (p : Fin 1024) :
    chan (View.ld (iblk m c 0 t) r0_3) p = pixel (X m c) b p := by
  funext d
  rw [← block_at m c t 1 b (by simpa using hb)]
  pointwise [chan]
  blk_ext

/-- Every point's block of the codebook is the whole of it. -/
theorem codebook_block (t : Fin cfg0.N) : iblk m c 1 t = E m c := by
  blk_ext! [iblk, V, idx t]

/-- The same as the body loads it. -/
theorem codebook_load (t : Fin cfg0.N) : View.ld (iblk m c 1 t) r0_0 = E m c :=
  (View.ld_unit_zero (funext fun a => by fin_cases a <;> rfl) _ _).trans (codebook_block m c t)

/-- The first array: at every pixel the looked-up row. -/
theorem quant_final : (dats m 0 c).arrAt 2 cfg0.N = quantArr (X m c) (E m c) := by
  refine (dats m 0 c).arrAt_eq_of_covers 2 _ (by decide +kernel) fun t _ y => ?_
  have ht : t.val < 8 := lt_of_lt_of_eq t.isLt N_0
  blk_simp
  rw [after0_2]
  canon_tiles x h
  · have hi : (win0_2.blk t).view.emb y = ix3 (⟨2 * t.val + 1, by omega⟩ : Fin 16) (x 1) (x 2) := by blk_ext [idx t]
    have hx : x = ix3 (x 0) (x 1) (x 2) := eq_ix3 x
    rw [hi, hx, codebook_load, k0_pay15, codebook_load, pay12_eq]
    refine (pay6_at _ _ _ _ _).trans ?_
    exact congrArg (fun v => pick (row (E m c)) (near v (row (E m c))) (x 1))
      (second_chan m c t ⟨2 * t.val + 1, by omega⟩ rfl (x 2))
  · have hi : (win0_2.blk t).view.emb y = ix3 (⟨2 * t.val, by omega⟩ : Fin 16) (x 1) (x 2) := by blk_ext [idx t]
    have hx : x = ix3 (x 0) (x 1) (x 2) := eq_ix3 x
    rw [hi, hx, codebook_load]
    refine (pay6_at _ _ _ _ _).trans ?_
    exact congrArg (fun v => pick (row (E m c)) (near v (row (E m c))) (x 1))
      (first_chan m c t ⟨2 * t.val, by omega⟩ rfl (x 2))

/-- The second array: at every pixel the index of the nearest row. -/
theorem index_final : (dats m 0 c).arrAt 3 cfg0.N = indexArr (X m c) (E m c) := by
  refine (dats m 0 c).arrAt_eq_of_covers 3 _ (by decide +kernel) fun t _ y => ?_
  have ht : t.val < 8 := lt_of_lt_of_eq t.isLt N_0
  blk_simp
  rw [after0_3]
  canon_tiles x h
  · have hi : (win0_3.blk t).view.emb y = ix3 (⟨2 * t.val + 1, by omega⟩ : Fin 16) (0 : Fin 1) (x 2) := by
      blk_ext [idx t]
    have hx : x = ix3 (x 0) (x 1) (x 2) := eq_ix3 x
    rw [hi, hx, codebook_load, k0_pay15, codebook_load, pay13_eq]
    refine (pay7_at _ _ _ _ _).trans ?_
    exact congrArg (fun v => near v (row (E m c))) (second_chan m c t ⟨2 * t.val + 1, by omega⟩ rfl (x 2))
  · have hi : (win0_3.blk t).view.emb y = ix3 (⟨2 * t.val, by omega⟩ : Fin 16) (0 : Fin 1) (x 2) := by
      blk_ext [idx t]
    have hx : x = ix3 (x 0) (x 1) (x 2) := eq_ix3 x
    rw [hi, hx, codebook_load]
    refine (pay7_at _ _ _ _ _).trans ?_
    exact congrArg (fun v => near v (row (E m c))) (first_chan m c t ⟨2 * t.val, by omega⟩ rfl (x 2))

/-- The sum over an image's block is the sum over the image. -/
theorem missSum_eq (u : FVec Ideal S1x64x1024 .f32) (x : FVec Ideal S16x64x32x32 .f32) (e : FVec Ideal S1024x64 .f32)
    (b : Fin 16) (h : ∀ p, chan u p = pixel x b p) : ∑ d, ∑ p, miss e u d p = missSum x e b := by
  unfold missSum miss gap
  simp only [h]

/-- The third array: over each pair of images the sum of the squared differences. -/
theorem loss_final : (dats m 0 c).arrAt 4 cfg0.N = lossArr (X m c) (E m c) := by
  refine (dats m 0 c).arrAt_eq_of_covers 4 _ (by decide +kernel) fun t _ y => ?_
  have ht : t.val < 8 := lt_of_lt_of_eq t.isLt N_0
  blk_simp
  rw [after0_4]
  frame_out
  have hi : (win0_4.blk t).view.emb y = ix3 (⟨t.val, ht⟩ : Fin 8) (0 : Fin 1) (0 : Fin 1) := by blk_ext [idx t]
  have hy : y = ix3 (y 0) (y 1) (y 2) := eq_ix3 y
  refine Eq.trans ?_ (congrArg (lossArr (X m c) (E m c)) hi).symm
  rw [hy, k0_pay15, codebook_load, codebook_block]
  refine (pay14_at _ _ _ _ _ _).trans ?_
  exact congrArg₂ (fun p q : EReal => p + q)
    (missSum_eq _ (X m c) (E m c) ⟨2 * t.val, by omega⟩ (first_chan m c t _ rfl))
    (missSum_eq _ (X m c) (E m c) ⟨2 * t.val + 1, by omega⟩ (second_chan m c t _ rfl))

end Cert.VQ.Arrays

end
-- ==== Proof.KernelRun.lean ====
/-
  The kernel's run at exact arithmetic with its three results: what the operations after the grid make of the three
  arrays, read at an index, and the run itself.
-/
module

public import proofs.«01_k».proof.Proof.Arrays
public import Idealize.ShloMosaic.Lib.Claim

@[expose] public section

set_option maxRecDepth 16384

noncomputable section

namespace Cert.VQ.KernelRun

open Cert.KernelIdeal Cert.KernelIdeal.Gen Cert.VQ.Arrays
open Idealize.ShloMosaic Idealize.ShloMosaic.TcCoe Idealize.SL.Sem

variable (m : (ℓ : Loc nD τ sig) → Buf (Elt Ideal) ℓ) (ρ : Dev nD → PrngReg)

/-- The first result: the looked-up rows in image layout. -/
def quantOut (x : FVec Ideal S16x64x32x32 .f32) (e : FVec Ideal S1024x64 .f32) : FVec Ideal S16x64x32x32 .f32 :=
  shapeCast S16x64x32x32 (quantArr x e) shapeCasts_S16x64x1024_S16x64x32x32

/-- The second result: the sum over all pairs of images, scaled. -/
def lossOut (x : FVec Ideal S16x64x32x32 .f32) (e : FVec Ideal S1024x64 .f32) : FVec Ideal S_ .f32 :=
  mulf (Host.reduceAdd (lossArr x e) (constant S_ .f32 0x00000000#32) reducesTo_S8x1x1_S_d0_1_2 h_S_)
    (constant S_ .f32 0x34800000#32)

/-- The third result: the indices in image layout. -/
def indexOut (x : FVec Ideal S16x64x32x32 .f32) (e : FVec Ideal S1024x64 .f32) : IVec S16x1x32x32 32 :=
  shapeCast S16x1x32x32 (indexArr x e) shapeCasts_S16x1x1024_S16x1x32x32

/-- The buffers' contents when the grid is done, -/
abbrev atEnd (c : Dev nD) : Valuation τ sig (Elt Ideal) :=
  Pipeline.withArrays (cfgs 0).spec c (V0 m c) fun w => (dats m 0 c).arrAt w (cfgs 0).N

/-- at the first array, -/
theorem atEnd_quant (c : Dev nD) : atEnd m c (Proc.devRef .tc main_call0_v1_0) = quantArr (X m c) (E m c) :=
  (Pipeline.withArrays_arr spec0 launch0.win.arr_inj c (V0 m c) _ 2).trans (quant_final m c)

/-- at the second, -/
theorem atEnd_index (c : Dev nD) : atEnd m c (Proc.devRef .tc main_call0_v1_1) = indexArr (X m c) (E m c) :=
  (Pipeline.withArrays_arr spec0 launch0.win.arr_inj c (V0 m c) _ 3).trans (index_final m c)

/-- and at the third. -/
theorem atEnd_loss (c : Dev nD) : atEnd m c (Proc.devRef .tc main_call0_v1_2) = lossArr (X m c) (E m c) :=
  (Pipeline.withArrays_arr spec0 launch0.win.arr_inj c (V0 m c) _ 4).trans (loss_final m c)

/-- The operations after the grid leave the first result, -/
theorem tail_quant (c : Dev nD) :
    Pipeline.afterTail₀ cfgs (dats m) 0 (V0 m) [hostOps1] c main_v0_0 = quantOut (X m c) (E m c) := by
  unfold Pipeline.afterTail₀
  generalize hσ : Pipeline.withArrays (cfgs 0).spec c (V0 m c) (fun w => (dats m 0 c).arrAt w (cfgs 0).N) = σ
  have h : σ (Proc.devRef .tc main_call0_v1_0) = quantArr (X m c) (E m c) := hσ ▸ atEnd_quant m c
  unfold quantOut
  rw [← h]
  show StableHlo.after hostOps1 σ _ = _
  after_results
  rfl

/-- the third, -/
theorem tail_index (c : Dev nD) :
    Pipeline.afterTail₀ cfgs (dats m) 0 (V0 m) [hostOps1] c main_v0_2 = indexOut (X m c) (E m c) := by
  unfold Pipeline.afterTail₀
  generalize hσ : Pipeline.withArrays (cfgs 0).spec c (V0 m c) (fun w => (dats m 0 c).arrAt w (cfgs 0).N) = σ
  have h : σ (Proc.devRef .tc main_call0_v1_1) = indexArr (X m c) (E m c) := hσ ▸ atEnd_index m c
  unfold indexOut
  rw [← h]
  show StableHlo.after hostOps1 σ _ = _
  after_results
  rfl

/-- and the second. -/
theorem tail_loss (c : Dev nD) :
    Pipeline.afterTail₀ cfgs (dats m) 0 (V0 m) [hostOps1] c main_v0_1 = lossOut (X m c) (E m c) := by
  unfold Pipeline.afterTail₀
  generalize hσ : Pipeline.withArrays (cfgs 0).spec c (V0 m c) (fun w => (dats m 0 c).arrAt w (cfgs 0).N) = σ
  have h : σ (Proc.devRef .tc main_call0_v1_2) = lossArr (X m c) (E m c) := hσ ▸ atEnd_loss m c
  unfold lossOut
  rw [← h]
  show StableHlo.after hostOps1 σ _ = _
  after_results
  rfl

/-- From any memory whose counters are zero every fair execution of the kernel ends, and in every final state the three
    results hold the values named above of the two arguments, which are unchanged. -/
theorem run :
    θ_run defs (onTc (τ := τ) (main (F := Ideal))) ⟨m, fun _ => 0, ρ⟩ fun r =>
      ∀ c : Dev nD,
        r.2.mem ((c.tc : Thread nD τ).loc main_v0_0) = quantOut (X m c) (E m c)
        ∧ r.2.mem ((c.tc : Thread nD τ).loc main_v0_1) = lossOut (X m c) (E m c)
        ∧ r.2.mem ((c.tc : Thread nD τ).loc main_v0_2) = indexOut (X m c) (E m c)
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
      ⟨((h.1 c).2 main_v0_0 (Pipeline.mem_restRefs_of main_v0_0 (by decide) (by decide))).trans (tail_quant m c),
        ((h.1 c).2 main_v0_1 (Pipeline.mem_restRefs_of main_v0_1 (by decide) (by decide))).trans (tail_loss m c),
        ((h.1 c).2 main_v0_2 (Pipeline.mem_restRefs_of main_v0_2 (by decide) (by decide))).trans (tail_index m c),
        (h.2 c).1, (h.2 c).2⟩)
    (θ_run_and (run_main m ρ) (unchanged m ρ))

/-- The first result at a pixel. -/
theorem quantOut_at (x : FVec Ideal S16x64x32x32 .f32) (e : FVec Ideal S1024x64 .f32) (b : Fin 16) (d : Fin 64)
    (h w : Fin 32) (p : Fin 1024) (hp : (p : ℕ) = h * 32 + w) :
    quantOut x e (ix4 b d h w) = pick (row e) (near (pixel x b p) (row e)) d := by
  have hi : quantOut x e (ix4 b d h w) = quantArr x e (ix3 b d p) := by
    unfold quantOut
    generalize quantArr x e = q
    pointwise
    blk_ext
  rw [hi]
  rfl

/-- The third result at a pixel. -/
theorem indexOut_at (x : FVec Ideal S16x64x32x32 .f32) (e : FVec Ideal S1024x64 .f32) (b : Fin 16) (z : Fin 1)
    (h w : Fin 32) (p : Fin 1024) (hp : (p : ℕ) = h * 32 + w) :
    indexOut x e (ix4 b z h w) = near (pixel x b p) (row e) := by
  have hi : indexOut x e (ix4 b z h w) = indexArr x e (ix3 b (0 : Fin 1) p) := by
    unfold indexOut
    generalize indexArr x e = q
    pointwise
    blk_ext
  rw [hi]
  rfl

/-- The second result. -/
theorem lossOut_at (x : FVec Ideal S16x64x32x32 .f32) (e : FVec Ideal S1024x64 .f32) (i : S_.Idx) :
    lossOut x e i = (∑ b : Fin 16, missSum x e b) * Ideal.ofBits .f32 0x34800000#32 := by
  have hs : Host.reduceAdd (lossArr x e) (constant S_ .f32 0x00000000#32) reducesTo_S8x1x1_S_d0_1_2 h_S_ i
      = ∑ b : Fin 16, missSum x e b := by
    generalize hq : lossArr x e = q
    have h2 : (Host.reduceAdd q (constant S_ .f32 0x00000000#32) reducesTo_S8x1x1_S_d0_1_2 h_S_ i : EReal)
        = ∑ s : Fin 8, q (ix3 s (0 : Fin 1) (0 : Fin 1)) := by
      pointwise
      refine Finset.sum_congr rfl fun s _ => ?_
      rw [Fin.sum_univ_one, Fin.sum_univ_one]
    rw [h2, ← hq, Fin.sum_univ_tiles 8 2 rfl (missSum x e)]
    refine Finset.sum_congr rfl fun s _ => ?_
    rw [Fin.sum_univ_two]
    refine congrArg₂ (fun p q : EReal => p + q) (congrArg (missSum x e) (Fin.ext ?_))
      (congrArg (missSum x e) (Fin.ext ?_))
    · show 2 * (s : ℕ) = s * 2 + 0
      omega
    · show 2 * (s : ℕ) + 1 = s * 2 + 1
      omega
  exact congrArg (· * Ideal.ofBits .f32 0x34800000#32) hs

end Cert.VQ.KernelRun

end
-- ==== Proof.RefRun.lean ====
/-
  The run of the reference program. @main is a straight line of host operations once the two outlined functions
  (the arg-min and the one-hot) are read in place, so every buffer ends at the fold of those operations over the
  contents at launch. The three results are named here stage by stage: the rows of pixels, the distances, the
  index of the nearest codebook row, the one-hot rows, the looked-up rows, and the three results made of them.
  Everything in this file holds for any meaning of the float operations.
-/
module

public import proofs.«01_k».proof.ReferenceIdeal
public import proofs.«01_k».proof.Proof.Gen.ReferenceIdeal
public import Idealize.ShloMosaic.Lib.StableHlo.Run
public import Idealize.ShloMosaic.Lib.Quiescent

@[expose] public section

set_option maxRecDepth 16384

noncomputable section

namespace Cert.VQ.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## The stages -/

/-- The input with its channel axis last. -/
def chLast (x : FVec F S16x64x32x32 .f32) : FVec F S16x32x32x64 .f32 :=
  transpose S16x32x32x64 [0, 2, 3, 1] x transposes_S16x64x32x32_S16x32x32x64_0_2_3_1

/-- One row of 64 numbers per pixel. -/
def rows (x : FVec F S16x64x32x32 .f32) : FVec F S16384x64 .f32 :=
  shapeCast S16384x64 (chLast x) shapeCasts_S16x32x32x64_S16384x64

/-- Every pixel's squared distance to every codebook row, as the reference computes it. -/
def dists (x : FVec F S16x64x32x32 .f32) (e : FVec F S1024x64 .f32) : FVec F S16384x1024 .f32 :=
  subf
    (addf
      (broadcastInDim S16384x1024 ![0, 1] bcast_S16384x1_S16384x1024_0_1
        (broadcastInDim S16384x1 ![0] bcast_S16384_S16384x1_0
          (Host.reduceAdd (mulf (rows x) (rows x)) (constant S_ .f32 0x00000000#32) reducesTo_S16384x64_S16384_d1 h_S_)))
      (broadcastInDim S16384x1024 ![0, 1] bcast_S1x1024_S16384x1024_0_1
        (broadcastInDim S1x1024 ![1] bcast_S1024_S1x1024_1
          (Host.reduceAdd (mulf e e) (constant S_ .f32 0x00000000#32) reducesTo_S1024x64_S1024_d1 h_S_))))
    (mulf (broadcastInDim S16384x1024 ![] bcast_S_S16384x1024 (constant S_ .f32 0x40000000#32))
      (Host.dotGeneral dot_S16384x64_S64x1024_S16384x1024_1_0_0_1_n_n none (rows x)
        (transpose S64x1024 [1, 0] e transposes_S1024x64_S64x1024_1_0)))

/-- Of each row of a table, the index of its least entry, as the reference's two-operand reduction finds it. -/
def argLeast (v : FVec F S16384x1024 .f32) : IVec S16384 32 :=
  fun j => (Host.argReduce reducer_argmin_f32_i32 v (iotaInDim S16384x1024 32 1) (constant S_ .f32 0x7F800000#32)
    (constantI S_ 32 0#32) reducesTo_S16384x1024_S16384_d1 h_S_ j).2

/-- The one-hot rows of a vector of indices. -/
def oneHot (n : IVec S16384 32) : FVec F S16384x1024 .f32 :=
  uitofp .f32 (cmpi .eq
    (broadcastInDim S16384x1024 ![0, 1] bcast_S16384x1_S16384x1024_0_1
      (broadcastInDim S16384x1 ![0] bcast_S16384_S16384x1_0 n))
    (broadcastInDim S16384x1024 ![0, 1] bcast_S1x1024_S16384x1024_0_1 (iotaInDim S1x1024 32 1)))

/-- The looked-up rows: one-hot rows times the codebook, with the pixel axis split. -/
def looked (n : IVec S16384 32) (e : FVec F S1024x64 .f32) : FVec F S16x32x32x64 .f32 :=
  shapeCast S16x32x32x64 (Host.dotGeneral dot_S16384x1024_S1024x64_S16384x64_1_0_0_1_n_n none (oneHot n) e)
    shapeCasts_S16384x64_S16x32x32x64

/-- The nearest row's index of every pixel. -/
def nearest (x : FVec F S16x64x32x32 .f32) (e : FVec F S1024x64 .f32) : IVec S16384 32 := argLeast (dists x e)

/-- The first result: the input plus (looked-up row minus input), channels second again. -/
def quantized (x : FVec F S16x64x32x32 .f32) (e : FVec F S1024x64 .f32) : FVec F S16x64x32x32 .f32 :=
  transpose S16x64x32x32 [0, 3, 1, 2] (addf (chLast x) (subf (looked (nearest x e) e) (chLast x)))
    transposes_S16x32x32x64_S16x64x32x32_0_3_1_2

/-- The second result: a quarter of the mean squared difference. -/
def loss (x : FVec F S16x64x32x32 .f32) (e : FVec F S1024x64 .f32) : FVec F S_ .f32 :=
  mulf (constant S_ .f32 0x3E800000#32)
    (Host.divf
      (Host.reduceAdd
        (mulf (subf (looked (nearest x e) e) (chLast x)) (subf (looked (nearest x e) e) (chLast x)))
        (constant S_ .f32 0x00000000#32) reducesTo_S16x32x32x64_S_d0_1_2_3 h_S_)
      (constant S_ .f32 0x49800000#32))

/-- A vector of one index per pixel, in image layout. -/
def asImages (n : IVec S16384 32) : IVec S16x1x32x32 32 :=
  transpose S16x1x32x32 [0, 3, 1, 2] (shapeCast S16x32x32x1 n shapeCasts_S16384_S16x32x32x1)
    transposes_S16x32x32x1_S16x1x32x32_0_3_1_2

/-- The third result: the indices in image layout. -/
def indices (x : FVec F S16x64x32x32 .f32) (e : FVec F S1024x64 .f32) : IVec S16x1x32x32 32 := asImages (nearest x e)

/-! ## The run -/

/-- @main's operations in order, the two outlined functions read in place. -/
abbrev ops : List (HloOp τ sig (Elt F)) :=
  [ unary main_arg0 main_v0 (transpose S16x32x32x64 [0, 2, 3, 1] · transposes_S16x64x32x32_S16x32x32x64_0_2_3_1),
    unary main_v0 main_v1 (shapeCast S16384x64 · shapeCasts_S16x32x32x64_S16384x64),
    binary main_v1 main_v1 main_v2 mulf,
    nullary main_cst (constant S_ .f32 0x00000000#32),
    binary main_v2 main_cst main_v3 (fun x v => Host.reduceAdd x v reducesTo_S16384x64_S16384_d1 h_S_),
    unary main_v3 main_v4 (broadcastInDim S16384x1 ![0] bcast_S16384_S16384x1_0),
    binary main_arg1 main_arg1 main_v5 mulf,
    nullary main_cst_0 (constant S_ .f32 0x00000000#32),
    binary main_v5 main_cst_0 main_v6 (fun x v => Host.reduceAdd x v reducesTo_S1024x64_S1024_d1 h_S_),
    unary main_v6 main_v7 (broadcastInDim S1x1024 ![1] bcast_S1024_S1x1024_1),
    unary main_v4 main_v8 (broadcastInDim S16384x1024 ![0, 1] bcast_S16384x1_S16384x1024_0_1),
    unary main_v7 main_v9 (broadcastInDim S16384x1024 ![0, 1] bcast_S1x1024_S16384x1024_0_1),
    binary main_v8 main_v9 main_v10 addf,
    unary main_arg1 main_v11 (transpose S64x1024 [1, 0] · transposes_S1024x64_S64x1024_1_0),
    binary main_v1 main_v11 main_v12 (fun l r => Host.dotGeneral dot_S16384x64_S64x1024_S16384x1024_1_0_0_1_n_n none l r),
    nullary main_cst_1 (constant S_ .f32 0x40000000#32),
    unary main_cst_1 main_v13 (broadcastInDim S16384x1024 ![] bcast_S_S16384x1024),
    binary main_v13 main_v12 main_v14 mulf,
    binary main_v10 main_v14 main_v15 subf,
    nullary main_call0_v0 (iotaInDim S16384x1024 32 1),
    nullary main_call0_cst (constant S_ .f32 0x7F800000#32),
    nullary main_call0_c (constantI S_ 32 0#32),
    quaternary main_v15 main_call0_v0 main_call0_cst main_call0_c main_call0_v1_0
      (fun x y u v j => (Host.argReduce reducer_argmin_f32_i32 x y u v reducesTo_S16384x1024_S16384_d1 h_S_ j).1),
    quaternary main_v15 main_call0_v0 main_call0_cst main_call0_c main_v16
      (fun x y u v j => (Host.argReduce reducer_argmin_f32_i32 x y u v reducesTo_S16384x1024_S16384_d1 h_S_ j).2),
    unary main_v16 main_v17 (shapeCast S16x32x32x1 · shapeCasts_S16384_S16x32x32x1),
    unary main_v17 main_v18 (transpose S16x1x32x32 [0, 3, 1, 2] · transposes_S16x32x32x1_S16x1x32x32_0_3_1_2),
    unary main_v16 main_call1_v0 (broadcastInDim S16384x1 ![0] bcast_S16384_S16384x1_0),
    nullary main_call1_v1 (iotaInDim S1x1024 32 1),
    unary main_call1_v0 main_call1_v2 (broadcastInDim S16384x1024 ![0, 1] bcast_S16384x1_S16384x1024_0_1),
    unary main_call1_v1 main_call1_v3 (broadcastInDim S16384x1024 ![0, 1] bcast_S1x1024_S16384x1024_0_1),
    binary main_call1_v2 main_call1_v3 main_call1_v4 (cmpi .eq),
    unary main_call1_v4 main_v19 (uitofp .f32),
    binary main_v19 main_arg1 main_v20 (fun l r => Host.dotGeneral dot_S16384x1024_S1024x64_S16384x64_1_0_0_1_n_n none l r),
    unary main_v20 main_v21 (shapeCast S16x32x32x64 · shapeCasts_S16384x64_S16x32x32x64),
    binary main_v21 main_v0 main_v22 subf,
    binary main_v22 main_v22 main_v23 mulf,
    nullary main_cst_2 (constant S_ .f32 0x00000000#32),
    binary main_v23 main_cst_2 main_v24 (fun x v => Host.reduceAdd x v reducesTo_S16x32x32x64_S_d0_1_2_3 h_S_),
    nullary main_cst_3 (constant S_ .f32 0x49800000#32),
    binary main_v24 main_cst_3 main_v25 Host.divf,
    binary main_v21 main_v0 main_v26 subf,
    binary main_v0 main_v26 main_v27 addf,
    unary main_v27 main_v28 (transpose S16x64x32x32 [0, 3, 1, 2] · transposes_S16x32x32x64_S16x64x32x32_0_3_1_2),
    nullary main_cst_4 (constant S_ .f32 0x3E800000#32),
    binary main_cst_4 main_v25 main_v29 mulf ]

/-- @main is that straight line. -/
theorem main_eq (c : Dev nD) : main (F := F) c = seq ops := rfl

/-- The fold at the third result's buffer, -/
theorem indices_eq (V : Valuation τ sig (Elt F)) :
    after ops V (main_v18 : DevRef τ sig) = indices (V (main_arg0 : DevRef τ sig)) (V (main_arg1 : DevRef τ sig)) := by
  after_results
  rfl

/-- at the first's, -/
theorem quantized_eq (V : Valuation τ sig (Elt F)) :
    after ops V (main_v28 : DevRef τ sig) = quantized (V (main_arg0 : DevRef τ sig)) (V (main_arg1 : DevRef τ sig)) := by
  after_results
  rfl

/-- at the second's, -/
theorem loss_eq (V : Valuation τ sig (Elt F)) :
    after ops V (main_v29 : DevRef τ sig) = loss (V (main_arg0 : DevRef τ sig)) (V (main_arg1 : DevRef τ sig)) := by
  after_results
  rfl

/-- and at the two arguments', which no operation writes. -/
theorem arg0_eq (V : Valuation τ sig (Elt F)) :
    after ops V (main_arg0 : DevRef τ sig) = V (main_arg0 : DevRef τ sig) := by
  after_results

/-- The second argument keeps its contents too. -/
theorem arg1_eq (V : Valuation τ sig (Elt F)) :
    after ops V (main_arg1 : DevRef τ sig) = V (main_arg1 : DevRef τ sig) := by
  after_results

/-- The program declares no buffer with a scope of its own, -/
theorem no_scoped_refs : (Finset.univ.filter fun b : Ref sig .tc => b.isScoped) = ∅ := by decide

/-- and no semaphore with one. -/
theorem no_scoped_sems : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig := by
  simp only [List.Forall, nullary_bufs_sub, unary_bufs_sub, binary_bufs_sub, quaternary_bufs_sub, and_self]

/-- From any memory whose counters are zero every fair execution of the reference ends, and in every final state the
    three results hold the stages named above of the two arguments, which are unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v28)
            = quantized (m ((c.tc : Thread nD τ).loc main_arg0)) (m ((c.tc : Thread nD τ).loc main_arg1))
        ∧ r.2.mem ((c.tc : Thread nD τ).loc main_v29)
            = loss (m ((c.tc : Thread nD τ).loc main_arg0)) (m ((c.tc : Thread nD τ).loc main_arg1))
        ∧ r.2.mem ((c.tc : Thread nD τ).loc main_v18)
            = indices (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v28).trans (quantized_eq _), (h c main_v29).trans (loss_eq _),
      (h c main_v18).trans (indices_eq _), (h c main_arg0).trans (arg0_eq _), (h c main_arg1).trans (arg1_eq _)⟩)
    (run_seq no_scoped_refs no_scoped_sems defs main (fun _ => ops) main_eq (fun _ => ops_sub) m ρ)

end Cert.VQ.RefRun

end
-- ==== Proof.RefValue.lean ====
/-
  The reference's three results read at an index, at exact arithmetic: the index of the nearest row, the looked-up row
  put back onto the pixel, and a quarter of the mean of the squared differences.
-/
module

public import proofs.«01_k».proof.Proof.RefRun
public import proofs.«01_k».proof.Proof.Spec
public import proofs.«01_k».proof.Proof.ArgMin
public import Idealize.ShloMosaic.Lib.Pointwise
public import Idealize.ShloMosaic.PureOps.Ideal.Laws

@[expose] public section

set_option maxRecDepth 16384

noncomputable section

namespace Cert.VQ.RefValue

open Cert.ReferenceIdeal Cert.ReferenceIdeal.Gen Cert.VQ.RefRun
open Idealize.ShloMosaic Idealize.ShloMosaic.TcCoe Idealize.SL.Sem

variable (x : FVec Ideal S16x64x32x32 .f32) (e : FVec Ideal S1024x64 .f32)

/-- Position `(h, w)` of the grid is pixel `32 h + w`. -/
def pos (h w : Fin 32) : Fin 1024 := ⟨(h : ℕ) * 32 + w, by omega⟩

/-- The channel-last input at a pixel. -/
theorem chLast_at (b : Fin 16) (h w : Fin 32) (d : Fin 64) : chLast x (ix4 b h w d) = pixel x b (pos h w) d := by
  pointwise [chLast, pixel, pos]
  congr 1
  idx_ext

/-- Row `1024 b + 32 h + w` of the flattened input is that pixel of image `b`. -/
theorem rows_at (b : Fin 16) (h w : Fin 32) (d : Fin 64) :
    rows x (ix2 ⟨(b : ℕ) * 1024 + h * 32 + w, by omega⟩ d) = pixel x b (pos h w) d := by
  pointwise [rows, chLast, pixel, pos]
  congr 1
  idx_ext

/-- The table of distances at a pixel and a row. -/
theorem dists_at (n : Fin 16384) (k : Fin 1024) :
    dists x e (ix2 n k) = dist (fun d => rows x (ix2 n d)) (row e) k := by
  pointwise [dists, dist, row]
  simp only [mul_comm]

/-- The reference's comparison of two (value, index) pairs keeps the lesser: the smaller value, at equal values the
    smaller index. -/
theorem reducer_lesser (a b : EReal × BitVec 32) :
    reducer_argmin_f32_i32 (F := Ideal) a b = if pairKey a < pairKey b then a else b := by
  obtain ⟨a, i⟩ := a
  obtain ⟨b, j⟩ := b
  have hlt : (pairKey (a, i) < pairKey (b, j)) ↔ (a < b ∨ a = b ∧ i.toInt < j.toInt) := by
    simp [pairKey, Prod.Lex.toLex_lt_toLex]
  rw [if_congr hlt rfl rfl]
  by_cases h1 : a < b
  · simp [reducer_argmin_f32_i32, Ideal.cmpf_def, Ideal.cmp, h1, h1.ne, Scalar.select, IntOp.ori, IntOp.andi, IntOp.cmpi]
  · by_cases h2 : a = b
    · subst h2
      by_cases h3 : i.toInt < j.toInt
      · simp [reducer_argmin_f32_i32, Ideal.cmpf_def, Ideal.cmp, h3, Scalar.select, IntOp.ori, IntOp.andi, IntOp.cmpi,
          BitVec.slt]
      · simp [reducer_argmin_f32_i32, Ideal.cmpf_def, Ideal.cmp, h3, Scalar.select, IntOp.ori, IntOp.andi, IntOp.cmpi,
          BitVec.slt]
    · simp [reducer_argmin_f32_i32, Ideal.cmpf_def, Ideal.cmp, h1, h2, Scalar.select, IntOp.ori, IntOp.andi, IntOp.cmpi]

/-- The reference's reduction of a row finds the position of its first least entry. -/
theorem argLeast_at (v : FVec Ideal S16384x1024 .f32) (n : Fin 16384) :
    argLeast v (ix1 n) = firstLeast fun k => v (ix2 n k) := by
  have h : argLeast v = fun j => (Host.argReduce reducer_argmin_f32_i32 v (iotaInDim S16384x1024 32 1)
      (constant S_ .f32 0x7F800000#32) (constantI S_ 32 0#32) reducesTo_S16384x1024_S16384_d1 h_S_ j).2 := rfl
  rw [h]
  exact argMin_row (m := 16384) _ reducer_lesser v _ (fun _ _ => rfl) _ _ (fun _ => inf_word) (fun _ => rfl) _ _ n

/-- So the nearest row's index at pixel `(h, w)` of image `b`. -/
theorem nearest_at (b : Fin 16) (h w : Fin 32) :
    nearest x e (ix1 ⟨(b : ℕ) * 1024 + h * 32 + w, by omega⟩) = near (pixel x b (pos h w)) (row e) := by
  have hd : ∀ d, rows x (ix2 ⟨(b : ℕ) * 1024 + h * 32 + w, by omega⟩ d) = pixel x b (pos h w) d := rows_at x b h w
  unfold nearest near
  rw [argLeast_at]
  refine congrArg firstLeast (funext fun k => ?_)
  rw [dists_at, funext hd]

/-- A vector of indices in image layout, read at a pixel. -/
theorem asImages_at (n : IVec S16384 32) (b : Fin 16) (z : Fin 1) (h w : Fin 32) :
    asImages n (ix4 b z h w) = n (ix1 ⟨(b : ℕ) * 1024 + h * 32 + w, by omega⟩) := by
  pointwise [asImages]

/-- The third result at a pixel. -/
theorem indices_at (b : Fin 16) (z : Fin 1) (h w : Fin 32) :
    indices x e (ix4 b z h w) = near (pixel x b (pos h w)) (row e) := by
  unfold indices
  rw [asImages_at, nearest_at]

/-- The looked-up rows at a pixel, for any indices. -/
theorem looked_at (n : IVec S16384 32) (b : Fin 16) (h w : Fin 32) (d : Fin 64) :
    looked n e (ix4 b h w d) = pick (row e) (n (ix1 ⟨(b : ℕ) * 1024 + h * 32 + w, by omega⟩)) d := by
  pointwise [looked, oneHot, pick, row]
  refine Finset.sum_congr rfl fun k _ => ?_
  rw [mul_comm]
  exact congrArg _ (bit_toNat _ _)

/-- The looked-up rows at the reference's own indices. -/
theorem looked_nearest_at (b : Fin 16) (h w : Fin 32) (d : Fin 64) :
    looked (nearest x e) e (ix4 b h w d) = pick (row e) (near (pixel x b (pos h w)) (row e)) d := by
  rw [looked_at, nearest_at]

/-- The first result at a pixel: the pixel plus (looked-up row minus pixel). -/
theorem quantized_at (b : Fin 16) (d : Fin 64) (h w : Fin 32) :
    quantized x e (ix4 b d h w)
      = pixel x b (pos h w) d + (pick (row e) (near (pixel x b (pos h w)) (row e)) d - pixel x b (pos h w) d) := by
  pointwise [quantized]
  rw [chLast_at, looked_nearest_at]

/-- Adding a finite number back after taking it away changes nothing, whatever the other number. -/
theorem add_sub_back (a q : EReal) (h1 : a ≠ ⊤) (h2 : a ≠ ⊥) : a + (q - a) = q := by
  lift a to ℝ using ⟨h1, h2⟩
  induction q with
  | bot => simp
  | top => simp
  | coe q => norm_cast; ring

/-- So at a finite pixel the first result is the looked-up row. -/
theorem quantized_finite_at (b : Fin 16) (d : Fin 64) (h w : Fin 32)
    (h1 : x (ix4 b d h w) ≠ ⊤) (h2 : x (ix4 b d h w) ≠ ⊥) :
    quantized x e (ix4 b d h w) = pick (row e) (near (pixel x b (pos h w)) (row e)) d := by
  have hp : pixel x b (pos h w) d = x (ix4 b d h w) := by
    rw [← chLast_at]; pointwise [chLast]
  rw [quantized_at]
  exact add_sub_back _ _ (by rwa [hp]) (by rwa [hp])

/-- The sum of all the squared differences. -/
def total : EReal := ∑ b : Fin 16, ∑ p : Fin 1024, ∑ d : Fin 64, gap x e b p d

/-- A sum over the grid of pixels is a sum over the pixel's number. -/
theorem sum_grid (f : Fin 1024 → EReal) : ∑ h : Fin 32, ∑ w : Fin 32, f (pos h w) = ∑ p : Fin 1024, f p :=
  (Fin.sum_univ_tiles 32 32 rfl f).symm

/-- The second result: a quarter of the mean, which is the total times 2⁻²². -/
theorem loss_at (i : S_.Idx) : loss x e i = total x e * Ideal.ofBits .f32 0x34800000#32 := by
  rw [← quarter_of_mean]
  unfold loss
  pointwise
  rw [Ideal.hostReduceAdd_total _ (fun b => b.elim0), zero_add, sum_idx4]
  unfold total
  congr 2
  refine Finset.sum_congr rfl fun b _ => ?_
  rw [← sum_grid]
  refine Finset.sum_congr rfl fun h _ => Finset.sum_congr rfl fun w _ => Finset.sum_congr rfl fun d _ => ?_
  show (looked (nearest x e) e (ix4 b h w d) - chLast x (ix4 b h w d))
    * (looked (nearest x e) e (ix4 b h w d) - chLast x (ix4 b h w d)) = _
  rw [chLast_at, looked_nearest_at]
  rfl

end Cert.VQ.RefValue

end
-- ==== Proof.Equal.lean ====
/-
  The kernel's three results are the reference's, at exact arithmetic. The first needs the input finite: the reference
  adds to the input the difference of the looked-up row and the input, which is the row where the input is finite.
-/
module

public import proofs.«01_k».proof.Proof.KernelRun
public import proofs.«01_k».proof.Proof.RefValue
public import proofs.«01_k».proof.Proof.Gen.Pre_nearest_is_unique

@[expose] public section

set_option maxRecDepth 16384

noncomputable section

namespace Cert.VQ.Equal

open Idealize.ShloMosaic Idealize.ShloMosaic.TcCoe Idealize.SL.Sem

variable (x : FVec Ideal Images .f32) (e : FVec Ideal Codebook .f32)

/-- A number whose magnitude is below plus infinity is neither infinity. -/
theorem finite_of_abs (a : EReal) (h : max a (-a) < ⊤) : a ≠ ⊤ ∧ a ≠ ⊥ := by
  constructor
  · rintro rfl; simp at h
  · rintro rfl; simp at h

/-- Two bits whose conjunction is one: the first is one. -/
theorem left_one (a b : BitVec 1) (h : IntOp.andi a b = 1#1) : a = 1#1 := by
  revert a b; decide

/-- Under the precondition every input is finite. -/
theorem finite_of_pre (h : Cert.Pre_nearest_is_unique.fn (F := Ideal) x e = fun _ => 1#1) (i : Images.Idx) :
    x i ≠ ⊤ ∧ x i ≠ ⊥ := by
  have h0 := congrFun h i
  unfold Cert.Pre_nearest_is_unique.fn Cert.Pre_nearest_is_unique.fn_part1 at h0
  have h1 := left_one _ _ h0
  refine finite_of_abs _ ?_
  have h2 : BitVec.ofBool (decide (max (x i) (-x i) < Ideal.ofBits .f32 0x7F800000#32)) = 1#1 := h1
  rw [inf_word] at h2
  by_contra h3
  rw [decide_eq_false h3] at h2
  exact absurd h2 (by decide)

/-- The first results agree. -/
theorem quantized_eq (h : ∀ i, x i ≠ ⊤ ∧ x i ≠ ⊥) : RefRun.quantized x e = KernelRun.quantOut x e := by
  funext i
  obtain ⟨b, d, r, w, rfl⟩ : ∃ b d r w, i = ix4 b d r w := ⟨_, _, _, _, eq_ix4 i⟩
  exact (RefValue.quantized_finite_at x e b d r w (h _).1 (h _).2).trans
    (KernelRun.quantOut_at x e b d r w (RefValue.pos r w) rfl).symm

/-- The third results agree. -/
theorem indices_eq : RefRun.indices x e = KernelRun.indexOut x e := by
  funext i
  obtain ⟨b, z, r, w, rfl⟩ : ∃ b z r w, i = ix4 b z r w := ⟨_, _, _, _, eq_ix4 i⟩
  exact (RefValue.indices_at x e b z r w).trans (KernelRun.indexOut_at x e b z r w (RefValue.pos r w) rfl).symm

/-- The reference's total is the sum over the images, channels and pixels exchanged. -/
theorem total_eq : RefValue.total x e = ∑ b : Fin 16, Arrays.missSum x e b :=
  Finset.sum_congr rfl fun _ _ => Finset.sum_comm

/-- The second results agree. -/
theorem loss_eq : RefRun.loss x e = KernelRun.lossOut x e := by
  funext i
  exact (RefValue.loss_at x e i).trans ((congrArg (· * Ideal.ofBits .f32 0x34800000#32) (total_eq x e)).trans
    (KernelRun.lossOut_at x e i).symm)

end Cert.VQ.Equal

end
-- ==== Proof.lean ====
/-
  The certificate: the kernel, its reading at exact arithmetic and the reference each run to the end and leave their
  arguments and counters as they were; and at exact arithmetic the kernel's three results are the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_nearest_is_unique
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: it declares no semaphore, so its counters stay at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono
    (fun r h => ⟨fun c => ⟨(h c).2.2.2.1, (h c).2.2.2.2⟩, Idealize.ShloMosaic.sem_eq_zero_of_no_sems (by decide) r.2⟩)
    (Cert.VQ.RefRun.run m g)

/-- At exact arithmetic the kernel and the reference compute the same three results from the same arguments. -/
theorem same_results : Cert.algebraic_KernelIdeal_ReferenceIdeal := by
  intro m g m' g' hpre hargs
  refine ⟨fun c => Cert.VQ.KernelRun.quantOut (Cert.VQ.Arrays.X m c) (Cert.VQ.Arrays.E m c),
    fun c => Cert.VQ.KernelRun.lossOut (Cert.VQ.Arrays.X m c) (Cert.VQ.Arrays.E m c),
    fun c => Cert.VQ.KernelRun.indexOut (Cert.VQ.Arrays.X m c) (Cert.VQ.Arrays.E m c),
    Cert.VQ.KernelRun.run m g, ?_⟩
  refine (θ_run _ _ _).mono (fun r h c => ?_) (Cert.VQ.RefRun.run m' g')
  obtain ⟨h0, h1, h2, h3, h4⟩ := h c
  have ha0 : m' ((c.tc : Thread Cert.ReferenceIdeal.nD Cert.ReferenceIdeal.τ).loc Cert.ReferenceIdeal.main_arg0)
      = Cert.VQ.Arrays.X m c := (hargs c).1
  have ha1 : m' ((c.tc : Thread Cert.ReferenceIdeal.nD Cert.ReferenceIdeal.τ).loc Cert.ReferenceIdeal.main_arg1)
      = Cert.VQ.Arrays.E m c := (hargs c).2
  have hfin := Cert.VQ.Equal.finite_of_pre (Cert.VQ.Arrays.X m c) (Cert.VQ.Arrays.E m c) (hpre c)
  rw [ha0, ha1] at h0 h1 h2
  exact ⟨h0.trans (Cert.VQ.Equal.quantized_eq _ _ hfin), h1.trans (Cert.VQ.Equal.loss_eq _ _),
    h2.trans (Cert.VQ.Equal.indices_eq _ _), h3, h4⟩

/-- The whole certificate: the programs' printed side conditions, the three frames, and the equality of the results. -/
theorem claim : Cert.Claim :=
  ⟨Cert.Kernel.Gen.facts, Cert.KernelIdeal.Gen.facts, Cert.ReferenceIdeal.Gen.facts, Cert.Pre_nearest_is_unique.Gen.facts,
    fun m g _ => Cert.Kernel.Gen.frame m g,
    fun m g _ => Cert.Kernel.Gen.frame m g,
    fun m g _ => Cert.KernelIdeal.Gen.frame m g,
    fun m g _ => reference_frame m g,
    fun m g _ => reference_frame m g,
    trivial,
    same_results⟩

end Cert.Proof

end
